-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_nonnegative_and_finite [hPre_weights_nonnegative_and_finite : Cert.Pre_weights_nonnegative_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_nonnegative_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_weights_nonnegative_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_nonnegative_and_finite [hPre_weights_nonnegative_and_finite : Cert.Pre_weights_nonnegative_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_nonnegative_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_weights_nonnegative_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_weights_nonnegative_and_finite [hKernelIdeal : Cert.KernelIdeal.Facts] [hPre_weights_nonnegative_and_finite : Cert.Pre_weights_nonnegative_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_nonnegative_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_weights_nonnegative_and_finite [hReferenceIdeal : Cert.ReferenceIdeal.Facts] [hPre_weights_nonnegative_and_finite : Cert.Pre_weights_nonnegative_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_nonnegative_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_weights_nonnegative_and_finite [hKernelIdeal : Cert.KernelIdeal.Facts] [hReferenceIdeal : Cert.ReferenceIdeal.Facts] [hPre_weights_nonnegative_and_finite : Cert.Pre_weights_nonnegative_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_nonnegative_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_weights_nonnegative_and_finite : Cert.Pre_weights_nonnegative_and_finite.Facts),
    quiescent_Kernel (hKernel := hKernel)
    ∧ quiescent_KernelIdeal (hKernelIdeal := hKernelIdeal)
    ∧ quiescent_KernelIdeal_pre_weights_nonnegative_and_finite (hKernelIdeal := hKernelIdeal) (hPre_weights_nonnegative_and_finite := hPre_weights_nonnegative_and_finite)
    ∧ quiescent_ReferenceIdeal (hReferenceIdeal := hReferenceIdeal)
    ∧ quiescent_ReferenceIdeal_pre_weights_nonnegative_and_finite (hReferenceIdeal := hReferenceIdeal) (hPre_weights_nonnegative_and_finite := hPre_weights_nonnegative_and_finite)
    ∧ preserves_Kernel_KernelIdeal
    ∧ algebraic_KernelIdeal_ReferenceIdeal_pre_weights_nonnegative_and_finite (hKernelIdeal := hKernelIdeal) (hReferenceIdeal := hReferenceIdeal) (hPre_weights_nonnegative_and_finite := hPre_weights_nonnegative_and_finite)
-- ==== Pre_weights_nonnegative_and_finite.lean ====
abbrev S1x2048x1024 : Shape := ⟨3, ![1, 2048, 1024]⟩
abbrev S2048x2 : Shape := ⟨2, ![2048, 2]⟩
abbrev S2048x8 : Shape := ⟨2, ![2048, 8]⟩
abbrev S8x1024x2048 : Shape := ⟨3, ![8, 1024, 2048]⟩
abbrev S8x2048 : Shape := ⟨2, ![8, 2048]⟩
abbrev S8x1024x1024 : Shape := ⟨3, ![8, 1024, 1024]⟩
abbrev S8x1024 : Shape := ⟨2, ![8, 1024]⟩
abbrev S_ : Shape := ⟨0, ![]⟩

class Facts : Prop where
  bcast_S_S2048x8 : S_.BroadcastsInDim S2048x8 (![] : Fin 0 → Fin S2048x8.rank)

variable [Facts]

def fn {F : FTy → Type} [FloatOps F] (main_arg0 : FVec F S1x2048x1024 .f32) (main_arg1 : IVec S2048x2 32) (main_arg2 : FVec F S2048x8 .f32) (main_arg3 : FVec F S8x1024x2048 .f32) (main_arg4 : FVec F S8x2048 .f32) (main_arg5 : FVec F S8x1024x1024 .f32) (main_arg6 : FVec F S8x1024 .f32) : IVec S2048x8 1 × IVec S2048x8 1 :=
  let main_cst : FVec F S_ .f32 := constant S_ .f32 0x00000000#32
  let main_v0 : FVec F S2048x8 .f32 := broadcastInDim S2048x8 ![] bcast_S_S2048x8 main_cst
  let main_v1 : IVec S2048x8 1 := cmpf .oge main_arg2 main_v0
  let main_cst_0 : FVec F S_ .f32 := constant S_ .f32 0x7F800000#32
  let main_v2 : FVec F S2048x8 .f32 := broadcastInDim S2048x8 ![] bcast_S_S2048x8 main_cst_0
  let main_v3 : IVec S2048x8 1 := cmpf .olt main_arg2 main_v2
  (main_v1, main_v3)
-- ==== Kernel.lean ====
abbrev S1x2048x1024 : Shape := ⟨3, ![1, 2048, 1024]⟩
abbrev S2048x2 : Shape := ⟨2, ![2048, 2]⟩
abbrev S2048x8 : Shape := ⟨2, ![2048, 8]⟩
abbrev S8x1024x2048 : Shape := ⟨3, ![8, 1024, 2048]⟩
abbrev S8x2048 : Shape := ⟨2, ![8, 2048]⟩
abbrev S8x1024x1024 : Shape := ⟨3, ![8, 1024, 1024]⟩
abbrev S8x1024 : Shape := ⟨2, ![8, 1024]⟩
abbrev S2048x1024 : Shape := ⟨2, ![2048, 1024]⟩
abbrev S8x1024x1024x2 : Shape := ⟨4, ![8, 1024, 1024, 2]⟩
abbrev S8x1024x1024x1 : Shape := ⟨4, ![8, 1024, 1024, 1]⟩
abbrev S8x1024x2 : Shape := ⟨3, ![8, 1024, 2]⟩
abbrev S8x1024x1 : Shape := ⟨3, ![8, 1024, 1]⟩
abbrev S8x1x2048 : Shape := ⟨3, ![8, 1, 2048]⟩
abbrev S8x1x1024 : Shape := ⟨3, ![8, 1, 1024]⟩
abbrev S1x1024x2048 : Shape := ⟨3, ![1, 1024, 2048]⟩
abbrev S1x1024x1024 : Shape := ⟨3, ![1, 1024, 1024]⟩
abbrev S1x1x2048 : Shape := ⟨3, ![1, 1, 2048]⟩
abbrev S1x1x1024 : Shape := ⟨3, ![1, 1, 1024]⟩
abbrev S2048 : Shape := ⟨1, ![2048]⟩
abbrev S2048x1 : Shape := ⟨2, ![2048, 1]⟩
abbrev S1x1024x512 : Shape := ⟨3, ![1, 1024, 512]⟩
abbrev S1024x512 : Shape := ⟨2, ![1024, 512]⟩
abbrev S2048x512 : Shape := ⟨2, ![2048, 512]⟩
abbrev S1x1x512 : Shape := ⟨3, ![1, 1, 512]⟩
abbrev S512 : Shape := ⟨1, ![512]⟩
abbrev S1x512 : Shape := ⟨2, ![1, 512]⟩
abbrev S1x512x1024 : Shape := ⟨3, ![1, 512, 1024]⟩
abbrev S512x1024 : Shape := ⟨2, ![512, 1024]⟩
abbrev S1024 : Shape := ⟨1, ![1024]⟩
abbrev S1x1024 : Shape := ⟨2, ![1, 1024]⟩

abbrev nBuf : Space → Nat
  | .hbm => 28
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S2048x2, .i32⟩
  | .hbm, ⟨2, _⟩ => ⟨S2048x8, .f32⟩
  | .hbm, ⟨3, _⟩ => ⟨S8x1024x2048, .f32⟩
  | .hbm, ⟨4, _⟩ => ⟨S8x2048, .f32⟩
  | .hbm, ⟨5, _⟩ => ⟨S8x1024x1024, .f32⟩
  | .hbm, ⟨6, _⟩ => ⟨S8x1024, .f32⟩
  | .hbm, ⟨7, _⟩ => ⟨S2048x1024, .f32⟩
  | .hbm, ⟨8, _⟩ => ⟨S8x1024x1024x2, .f32⟩
  | .hbm, ⟨9, _⟩ => ⟨S8x1024x1024x1, .f32⟩
  | .hbm, ⟨10, _⟩ => ⟨S8x1024x1024, .f32⟩
  | .hbm, ⟨11, _⟩ => ⟨S8x1024x1024x1, .f32⟩
  | .hbm, ⟨12, _⟩ => ⟨S8x1024x1024, .f32⟩
  | .hbm, ⟨13, _⟩ => ⟨S8x1024x2048, .f32⟩
  | .hbm, ⟨14, _⟩ => ⟨S8x1024x2048, .f32⟩
  | .hbm, ⟨15, _⟩ => ⟨S8x1024x2048, .bf16⟩
  | .hbm, ⟨16, _⟩ => ⟨S8x1024x2, .f32⟩
  | .hbm, ⟨17, _⟩ => ⟨S8x1024x1, .f32⟩
  | .hbm, ⟨18, _⟩ => ⟨S8x1024, .f32⟩
  | .hbm, ⟨19, _⟩ => ⟨S8x1024x1, .f32⟩
  | .hbm, ⟨20, _⟩ => ⟨S8x1024, .f32⟩
  | .hbm, ⟨21, _⟩ => ⟨S8x2048, .f32⟩
  | .hbm, ⟨22, _⟩ => ⟨S8x1x2048, .f32⟩
  | .hbm, ⟨23, _⟩ => ⟨S8x1x1024, .f32⟩
  | .hbm, ⟨24, _⟩ => ⟨S8x2048, .f32⟩
  | .hbm, ⟨25, _⟩ => ⟨S8x1x2048, .f32⟩
  | .hbm, ⟨26, _⟩ => ⟨S2048x1024, .f32⟩
  | .hbm, ⟨27, _⟩ => ⟨S1x2048x1024, .f32⟩
  | .local _ .vmem, ⟨0, _⟩ => ⟨S2048x1024, .f32⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x1024, .f32⟩
  | .local _ .vmem, ⟨10, _⟩ => ⟨S1x1x1024, .f32⟩
  | .local _ .vmem, ⟨11, _⟩ => ⟨S2048x1024, .f32⟩
  | .local _ .vmem, ⟨12, _⟩ => ⟨S2048x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_v0 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x2048x1024 : Shape := ⟨3, ![1, 2048, 1024]⟩
abbrev S2048x2 : Shape := ⟨2, ![2048, 2]⟩
abbrev S2048x8 : Shape := ⟨2, ![2048, 8]⟩
abbrev S8x1024x2048 : Shape := ⟨3, ![8, 1024, 2048]⟩
abbrev S8x2048 : Shape := ⟨2, ![8, 2048]⟩
abbrev S8x1024x1024 : Shape := ⟨3, ![8, 1024, 1024]⟩
abbrev S8x1024 : Shape := ⟨2, ![8, 1024]⟩
abbrev S2048x1024 : Shape := ⟨2, ![2048, 1024]⟩
abbrev S8x2048x1024 : Shape := ⟨3, ![8, 2048, 1024]⟩
abbrev S8x2048x2048 : Shape := ⟨3, ![8, 2048, 2048]⟩
abbrev S8x1x2048 : Shape := ⟨3, ![8, 1, 2048]⟩
abbrev S_ : Shape := ⟨0, ![]⟩
abbrev S8x1x1024 : Shape := ⟨3, ![8, 1, 1024]⟩
abbrev S8x1x2048x1024 : Shape := ⟨4, ![8, 1, 2048, 1024]⟩
abbrev S8x1x2048x1 : Shape := ⟨4, ![8, 1, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S2048x2, .i32⟩
  | .hbm, ⟨2, _⟩ => ⟨S2048x8, .f32⟩
  | .hbm, ⟨3, _⟩ => ⟨S8x1024x2048, .f32⟩
  | .hbm, ⟨4, _⟩ => ⟨S8x2048, .f32⟩
  | .hbm, ⟨5, _⟩ => ⟨S8x1024x1024, .f32⟩
  | .hbm, ⟨6, _⟩ => ⟨S8x1024, .f32⟩
  | .hbm, ⟨7, _⟩ => ⟨S2048x1024, .f32⟩
  | .hbm, ⟨8, _⟩ => ⟨S1x2048x1024, .f32⟩
  | .hbm, ⟨9, _⟩ => ⟨S8x2048x1024, .f32⟩
  | .hbm, ⟨10, _⟩ => ⟨S8x2048x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x1x2048x1024, .f32⟩
  | .hbm, ⟨48, _⟩ => ⟨S8x2048, .f32⟩
  | .hbm, ⟨49, _⟩ => ⟨S8x1x2048, .f32⟩
  | .hbm, ⟨50, _⟩ => ⟨S8x1x2048x1, .f32⟩
  | .hbm, ⟨51, _⟩ => ⟨S8x1x2048x1024, .f32⟩
  | .hbm, ⟨52, _⟩ => ⟨S8x1x2048x1024, .f32⟩
  | .hbm, ⟨53, _⟩ => ⟨S_, .f32⟩
  | .hbm, ⟨54, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proof.Formula.lean ====
/-
  What the two programs compute, as a function of the argument arrays, and the one law of the extended reals the two
  orders of work differ by. No program is mentioned here.
-/
module

public import Idealize.ShloMosaic.Lib.Pipeline.ValueKit

@[expose] public section

noncomputable section

namespace Cert.Moe

open Idealize.ShloMosaic

/-! ## The function computed -/

/-- The bound 7 of the activations. -/
abbrev limit : EReal := Ideal.ofBits FTy.f32 1088421888#32
/-- The bound -7 of the activations. -/
abbrev negLimit : EReal := Ideal.ofBits FTy.f32 3235905536#32
/-- The steepness 1.702 of the gate, as the 32-bit number both programs write. -/
abbrev steep : EReal := Ideal.ofBits FTy.f32 1071242019#32

/-- One feature's gate: the pre-activation cut off above, times the sigmoid of its multiple. -/
def gated (g : EReal) : EReal := min g limit * Ideal.logistic (min g limit * steep)

/-- One feature's linear part: the pre-activation clipped to [-7, 7], plus one. -/
def shifted (u : EReal) : EReal := min limit (max negLimit u) + 1

/-- The pre-activation of column `j` of expert `e` at token `p`: the token's row of `x` against the column of the
    expert's gate-and-up matrix, plus its bias. -/
def preAct (x : Fin 2048 → Fin 1024 → EReal) (w : Fin 8 → Fin 1024 → Fin 2048 → EReal) (b : Fin 8 → Fin 2048 → EReal)
    (e : Fin 8) (p : Fin 2048) (j : Fin 2048) : EReal :=
  ∑ s : Fin 1024, x p s * w e s j + b e j

/-- Feature `f` of expert `e` at token `p`: the even column `2 f` is its gate, the odd column `2 f + 1` its linear
    part. -/
def feature (x : Fin 2048 → Fin 1024 → EReal) (w : Fin 8 → Fin 1024 → Fin 2048 → EReal) (b : Fin 8 → Fin 2048 → EReal)
    (e : Fin 8) (p : Fin 2048) (f : Fin 1024) : EReal :=
  shifted (preAct x w b e p ⟨f.val * 2 + 1, by omega⟩) * gated (preAct x w b e p ⟨f.val * 2, by omega⟩)

/-- What expert `e` answers at token `p`, output column `h`: its features against its down matrix, plus that bias. -/
def expert (x : Fin 2048 → Fin 1024 → EReal) (w : Fin 8 → Fin 1024 → Fin 2048 → EReal) (b : Fin 8 → Fin 2048 → EReal)
    (d : Fin 8 → Fin 1024 → Fin 1024 → EReal) (k : Fin 8 → Fin 1024 → EReal) (e : Fin 8) (p : Fin 2048) (h : Fin 1024) :
    EReal :=
  ∑ f : Fin 1024, feature x w b e p f * d e f h + k e h

/-- The layer's output at token `p`, column `h`: every expert's answer times the token's weight for it, added up. -/
def layer (x : Fin 2048 → Fin 1024 → EReal) (w : Fin 8 → Fin 1024 → Fin 2048 → EReal) (b : Fin 8 → Fin 2048 → EReal)
    (d : Fin 8 → Fin 1024 → Fin 1024 → EReal) (k : Fin 8 → Fin 1024 → EReal) (r : Fin 2048 → Fin 8 → EReal)
    (p : Fin 2048) (h : Fin 1024) : EReal :=
  ∑ e : Fin 8, expert x w b d k e p h * r p e

/-! ## The law used -/

/-- A weight that is at least 0 and not +infinity may be moved inside a sum of extended reals. -/
theorem sum_mul_weight {n : ℕ} (a : Fin n → EReal) {r : EReal} (h0 : 0 ≤ r) (ht : r ≠ ⊤) :
    (∑ i, a i) * r = ∑ i, a i * r := by
  induction n with
  | zero => simp
  | succ n ih => rw [Fin.sum_univ_succ, Fin.sum_univ_succ, EReal.right_distrib_of_nonneg_of_ne_top h0 ht, ih]

/-- A sum of 1024 terms is the sum of the first 512 and the sum of the last 512. -/
theorem sum_halves (a : Fin 1024 → EReal) :
    ∑ i, a i = ∑ i : Fin 512, a ⟨i.val, by omega⟩ + ∑ i : Fin 512, a ⟨512 + i.val, by omega⟩ :=
  Fin.sum_univ_add (a := 512) (b := 512) a

/-- Weighting the features in two halves and the bias apart, each added to the total so far, adds the weighted answer:
    what one pass of the accumulating program and one term of the plain sum have in common. -/
theorem weighted_halves (acc : EReal) (a d : Fin 1024 → EReal) (k : EReal) {r : EReal} (h0 : 0 ≤ r) (ht : r ≠ ⊤) :
    acc + ∑ i : Fin 512, a ⟨i.val, by omega⟩ * r * d ⟨i.val, by omega⟩
        + ∑ i : Fin 512, a ⟨512 + i.val, by omega⟩ * r * d ⟨512 + i.val, by omega⟩ + r * k
      = acc + (∑ i, a i * d i + k) * r := by
  rw [EReal.right_distrib_of_nonneg_of_ne_top h0 ht, sum_mul_weight _ h0 ht, sum_halves, mul_comm k r]
  simp only [mul_right_comm _ r, add_assoc]

end Cert.Moe
-- ==== Proof.Payloads.lean ====
/-
  What one pass of the kernel body stores, read at one position: each vector expression of the body first, then the
  whole pass over the slices it loads.
-/
module

public import proofs.«01_k».proof.Proof.Gen.KernelIdeal.Frame
public import Idealize.ShloMosaic.Lib.Pipeline.ValueKit
public import proofs.«01_k».proof.Proof.Formula

@[expose] public section

set_option maxRecDepth 16384

noncomputable section

namespace Cert.KernelIdeal.Points

open Cert.KernelIdeal Cert.KernelIdeal.Gen Idealize.ShloMosaic Idealize.ShloMosaic.TcCoe Idealize.SL.Sem
open Cert.Moe

/-- A token's row of `x` against one column of a slice of 512 columns, plus that column's bias. -/
abbrev column (x : Vec Ideal S2048x1024 .bf16) (w : Vec Ideal S1x1024x512 .bf16) (b : Vec Ideal S1x1x512 .f32)
    (p : Fin 2048) (f : Fin 512) : EReal :=
  ∑ s : Fin 1024, (x (ix2 p s) : EReal) * w (ix3 0 s f) + b (ix3 0 0 f)

variable (x : Vec Ideal S2048x1024 .bf16) (w : Vec Ideal S1x1024x512 .bf16) (b : Vec Ideal S1x1x512 .f32)
variable (r : Vec Ideal S1x1x2048 .f32) (u g : FVec Ideal S2048x512 .f32) (d : Vec Ideal S1x512x1024 .f32)
variable (k : Vec Ideal S1x1x1024 .f32) (acc : Vec Ideal S2048x1024 .f32)

/-! ## The expressions of the body -/

/-- The zeros the accumulator starts from. -/
theorem zeros_at (p : Fin 2048) (h : Fin 1024) : k0_pay3 (F := Ideal) (ix2 p h) = (0 : EReal) := by
  pointwise [k0_pay3]

/-- The copy of `x` kept for the later passes holds the same numbers. -/
theorem copy_eq (y : Vec Ideal S2048x1024 .f32) (p : Fin 2048) (s : Fin 1024) :
    k0_pay4 (F := Ideal) y (ix2 p s) = (y (ix2 p s) : EReal) := by
  pointwise [k0_pay4]

/-- First half: the clipped linear part. -/
theorem clipped_at (p : Fin 2048) (f : Fin 512) :
    k0_pay6 (F := Ideal) x w b (ix2 p f) = min limit (max negLimit (column x w b p f)) := by
  pointwise [k0_pay6]

/-- First half: the gate. -/
theorem gated_at (p : Fin 2048) (f : Fin 512) : k0_pay7 (F := Ideal) x w b (ix2 p f) = gated (column x w b p f) := by
  pointwise [k0_pay7, gated]

/-- Second half: the linear part, not yet clipped. -/
theorem linear_at (p : Fin 2048) (f : Fin 512) : k0_pay9 (F := Ideal) x w b (ix2 p f) = column x w b p f := by
  pointwise [k0_pay9]

/-- Second half: the gate's pre-activation, cut off above. -/
theorem cut_at (p : Fin 2048) (f : Fin 512) : k0_pay10 (F := Ideal) x w b (ix2 p f) = min (column x w b p f) limit := by
  pointwise [k0_pay10]

/-- First half: the weighted features against the down matrix's slice, added to the total. -/
theorem first_at (p : Fin 2048) (h : Fin 1024) :
    k0_pay8 (F := Ideal) (k0_pay5 r) u g d acc (ix2 p h)
      = (acc (ix2 p h) : EReal) + ∑ i : Fin 512, ((u (ix2 p i) : EReal) + 1) * g (ix2 p i) * r (ix3 0 0 p) * d (ix3 0 i h) := by
  pointwise [k0_pay8, k0_pay5]

/-- Second half: the same, the clipping and the gate still to be applied. -/
theorem second_at (p : Fin 2048) (h : Fin 1024) :
    k0_pay1 (F := Ideal) (k0_pay5 r) u g (FloatOps.ofBits FTy.f32 1088421888#32) k0_pay11 d acc (ix2 p h)
      = (acc (ix2 p h) : EReal)
        + ∑ i : Fin 512, (min limit (max negLimit (u (ix2 p i))) + 1)
            * ((g (ix2 p i) : EReal) * Ideal.logistic ((g (ix2 p i) : EReal) * steep)) * r (ix3 0 0 p) * d (ix3 0 i h) := by
  pointwise [k0_pay1, k0_pay5, k0_pay11]

/-- The weighted bias, added to the total. -/
theorem bias_at (p : Fin 2048) (h : Fin 1024) :
    k0_pay2 (F := Ideal) (k0_pay5 r) acc k (ix2 p h)
      = (acc (ix2 p h) : EReal) + (r (ix3 0 0 p) : EReal) * k (ix3 0 0 h) := by
  pointwise [k0_pay2, k0_pay5]

/-! ## The pass -/

/-- One pass over the slices it loads: the total so far, plus the first 512 weighted features, plus the last 512, plus
    the weighted bias. -/
theorem pass_at (wg0 wu0 wg1 wu1 : Vec Ideal S1x1024x512 .bf16) (bg0 bu0 bg1 bu1 : Vec Ideal S1x1x512 .f32)
    (d0 d1 : Vec Ideal S1x512x1024 .f32) (p : Fin 2048) (h : Fin 1024) :
    k0_pay2 (F := Ideal) (k0_pay5 r)
        (k0_pay1 (k0_pay5 r) (k0_pay9 x wu1 bu1) (k0_pay10 x wg1 bg1) (FloatOps.ofBits FTy.f32 1088421888#32) k0_pay11 d1
          (k0_pay8 (k0_pay5 r) (k0_pay6 x wu0 bu0) (k0_pay7 x wg0 bg0) d0 acc)) k (ix2 p h)
      = (acc (ix2 p h) : EReal)
        + ∑ i : Fin 512, shifted (column x wu0 bu0 p i) * gated (column x wg0 bg0 p i) * r (ix3 0 0 p) * d0 (ix3 0 i h)
        + ∑ i : Fin 512, shifted (column x wu1 bu1 p i) * gated (column x wg1 bg1 p i) * r (ix3 0 0 p) * d1 (ix3 0 i h)
        + (r (ix3 0 0 p) : EReal) * k (ix3 0 0 h) := by
  rw [bias_at, second_at, first_at]
  simp only [linear_at, cut_at, clipped_at, gated_at]
  rfl

end Cert.KernelIdeal.Points
-- ==== Proof.Entry.lean ====
/-
  What the kernel's launch finds in the arrays the host prepares, and the blocks a grid point reads, as the program's
  own arguments.
-/
module

public import proofs.«01_k».proof.Proof.Gen.KernelIdeal.Frame
public import Idealize.ShloMosaic.Lib.Pipeline.ValueKit

@[expose] public section

set_option maxRecDepth 16384

noncomputable section

namespace Cert.KernelIdeal.Points

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The arrays the host prepares -/

/-- An array at the launch, as what the host's one list of operations leaves in it. -/
theorem entry_eq (b : Ref sig .tc) :
    V m c b = StableHlo.after hostOps0 (fun b => m (c, b)) (Proc.devRef .tc b) := by
  rfl

/-- The tokens: the first argument without its leading axis. -/
theorem tokens_entry (p : Fin 2048) (s : Fin 1024) :
    V m c main_call0_v0 (ix2 p s) = m ((c : Thread nD τ).loc main_arg0) (ix3 0 p s) := by
  rw [entry_eq]
  entry_read
  pointwise

/-- The left half of the prepared gate-and-up matrix holds the even columns. -/
theorem gate_entry (e : Fin 8) (s f : Fin 1024) :
    V m c main_call0_v8 (ix3 e s ⟨f.val, by omega⟩)
      = m ((c : Thread nD τ).loc main_arg3) (ix3 e s ⟨f.val * 2, by omega⟩) := by
  rw [entry_eq]
  entry_read
  simp only [StableHlo.TRef.toBuf, StableHlo.TRef.ofBuf, cast_eq, id]
  pointwise

/-- The right half holds the odd columns. -/
theorem up_entry (e : Fin 8) (s f : Fin 1024) :
    V m c main_call0_v8 (ix3 e s ⟨1024 + f.val, by omega⟩)
      = m ((c : Thread nD τ).loc main_arg3) (ix3 e s ⟨f.val * 2 + 1, by omega⟩) := by
  rw [entry_eq]
  entry_read
  simp only [StableHlo.TRef.toBuf, StableHlo.TRef.ofBuf, cast_eq, id]
  pointwise

/-- The left half of the prepared gate-and-up bias holds the even entries. -/
theorem gateBias_entry (e : Fin 8) (f : Fin 1024) :
    V m c main_call0_v15 (ix3 e 0 ⟨f.val, by omega⟩)
      = m ((c : Thread nD τ).loc main_arg4) (ix2 e ⟨f.val * 2, by omega⟩) := by
  rw [entry_eq]
  entry_read
  simp only [StableHlo.TRef.toBuf, StableHlo.TRef.ofBuf, cast_eq]
  pointwise

/-- The right half holds the odd entries. -/
theorem upBias_entry (e : Fin 8) (f : Fin 1024) :
    V m c main_call0_v15 (ix3 e 0 ⟨1024 + f.val, by omega⟩)
      = m ((c : Thread nD τ).loc main_arg4) (ix2 e ⟨f.val * 2 + 1, by omega⟩) := by
  rw [entry_eq]
  entry_read
  simp only [StableHlo.TRef.toBuf, StableHlo.TRef.ofBuf, cast_eq]
  pointwise

/-- The routing weights, one row per expert. -/
theorem weights_entry (e : Fin 8) (p : Fin 2048) :
    V m c main_call0_v18 (ix3 e 0 p) = m ((c : Thread nD τ).loc main_arg2) (ix2 p e) := by
  rw [entry_eq]
  entry_read
  simp only [StableHlo.TRef.toBuf, StableHlo.TRef.ofBuf, cast_eq]
  pointwise

/-- The down bias, with a middle axis of one. -/
theorem downBias_entry (e : Fin 8) (h : Fin 1024) :
    V m c main_call0_v16 (ix3 e 0 h) = m ((c : Thread nD τ).loc main_arg6) (ix2 e h) := by
  rw [entry_eq]
  entry_read
  pointwise

/-! ## The blocks of a grid point -/

/-- The expert a grid point works on: its own number. -/
abbrev expertOf (t : Fin cfg0.N) : Fin 8 := ⟨t.val, lt_of_lt_of_eq t.isLt N_0⟩

/-- Which block of each array a grid point reads or writes. -/
theorem block_index : ∀ t : Fin cfg0.N, win0_0.index t = ![0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![0, 0] :=
  (by decide +kernel : ∀ t : Fin grid0.N, _)

variable (t : Fin cfg0.N)

/-- Every point reads all the tokens. -/
theorem tokens_block (p : Fin 2048) (s : Fin 1024) :
    iblk m c 0 t (ix2 p s) = m ((c : Thread nD τ).loc main_arg0) (ix3 0 p s) := by
  refine Eq.trans ?_ (tokens_entry m c p s)
  blk_ext [iblk, block_index t]

/-- Expert `t`'s even columns, on the left. -/
theorem gate_block (s f : Fin 1024) :
    iblk m c 1 t (ix3 0 s ⟨f.val, by omega⟩)
      = m ((c : Thread nD τ).loc main_arg3) (ix3 (expertOf t) s ⟨f.val * 2, by omega⟩) := by
  refine Eq.trans ?_ (gate_entry m c (expertOf t) s f)
  blk_ext [iblk, block_index t]

/-- Expert `t`'s odd columns, on the right. -/
theorem up_block (s f : Fin 1024) (j : Fin 2048) (hj : j = ⟨1024 + f.val, by omega⟩) :
    iblk m c 1 t (ix3 0 s j)
      = m ((c : Thread nD τ).loc main_arg3) (ix3 (expertOf t) s ⟨f.val * 2 + 1, by omega⟩) := by
  subst hj
  refine Eq.trans ?_ (up_entry m c (expertOf t) s f)
  blk_ext [iblk, block_index t]

/-- Expert `t`'s even bias entries, on the left. -/
theorem gateBias_block (f : Fin 1024) :
    iblk m c 4 t (ix3 0 0 ⟨f.val, by omega⟩)
      = m ((c : Thread nD τ).loc main_arg4) (ix2 (expertOf t) ⟨f.val * 2, by omega⟩) := by
  refine Eq.trans ?_ (gateBias_entry m c (expertOf t) f)
  blk_ext [iblk, block_index t]

/-- Expert `t`'s odd bias entries, on the right. -/
theorem upBias_block (f : Fin 1024) (j : Fin 2048) (hj : j = ⟨1024 + f.val, by omega⟩) :
    iblk m c 4 t (ix3 0 0 j)
      = m ((c : Thread nD τ).loc main_arg4) (ix2 (expertOf t) ⟨f.val * 2 + 1, by omega⟩) := by
  subst hj
  refine Eq.trans ?_ (upBias_entry m c (expertOf t) f)
  blk_ext [iblk, block_index t]

/-- Every token's weight for expert `t`. -/
theorem weights_block (p : Fin 2048) :
    iblk m c 3 t (ix3 0 0 p) = m ((c : Thread nD τ).loc main_arg2) (ix2 p (expertOf t)) := by
  refine Eq.trans ?_ (weights_entry m c (expertOf t) p)
  blk_ext [iblk, block_index t]

/-- Expert `t`'s down matrix. -/
theorem down_block (f h : Fin 1024) :
    iblk m c 2 t (ix3 0 f h) = m ((c : Thread nD τ).loc main_arg5) (ix3 (expertOf t) f h) := by
  refine Eq.trans ?_ (congrFun (V_main_arg5 m c) (ix3 (expertOf t) f h))
  blk_ext [iblk, block_index t]

/-- Expert `t`'s down bias. -/
theorem downBias_block (h : Fin 1024) :
    iblk m c 5 t (ix3 0 0 h) = m ((c : Thread nD τ).loc main_arg6) (ix2 (expertOf t) h) := by
  refine Eq.trans ?_ (downBias_entry m c (expertOf t) h)
  blk_ext [iblk, block_index t]

end Cert.KernelIdeal.Points
-- ==== Proof.Points.lean ====
/-
  What each grid point leaves: the kept copy of the tokens, and the accumulated output one expert further.
-/
module

public import proofs.«01_k».proof.Proof.Payloads
public import proofs.«01_k».proof.Proof.Entry
public import Idealize.ShloMosaic.Lib.Pipeline.ReadBack

@[expose] public section

set_option maxRecDepth 16384

noncomputable section

namespace Cert.KernelIdeal.Points

open Cert.KernelIdeal Cert.KernelIdeal.Gen Idealize.ShloMosaic Idealize.ShloMosaic.TcCoe Idealize.SL.Sem
open Cert.Moe

variable (m : (ℓ : Loc nD τ sig) → Buf (Elt Ideal) ℓ) (c : Dev nD)

/-- Expert `e`'s answer at token `p`, column `h`, over device `c`'s arguments. -/
abbrev answerOf (e : Fin 8) (p : Fin 2048) (h : Fin 1024) : EReal :=
  expert (fun p s => m ((c : Thread nD τ).loc main_arg0) (ix3 0 p s)) (fun e s j => m ((c : Thread nD τ).loc main_arg3) (ix3 e s j))
    (fun e j => m ((c : Thread nD τ).loc main_arg4) (ix2 e j)) (fun e f h => m ((c : Thread nD τ).loc main_arg5) (ix3 e f h))
    (fun e h => m ((c : Thread nD τ).loc main_arg6) (ix2 e h)) e p h

/-- Token `p`'s weight for expert `e`. -/
abbrev weightOf (p : Fin 2048) (e : Fin 8) : EReal := m ((c : Thread nD τ).loc main_arg2) (ix2 p e)

/-! ## One pass, over what it reads -/

/-- A pass that reads the tokens, expert `e`'s four column slices, their biases, its down matrix in two halves, its down
    bias and its weights adds expert `e`'s weighted answer to the total. -/
theorem pass_answer (e : Fin 8) (x : Vec Ideal S2048x1024 .bf16) (wg0 wu0 wg1 wu1 : Vec Ideal S1x1024x512 .bf16)
    (bg0 bu0 bg1 bu1 : Vec Ideal S1x1x512 .f32) (d0 d1 : Vec Ideal S1x512x1024 .f32) (r : Vec Ideal S1x1x2048 .f32)
    (k : Vec Ideal S1x1x1024 .f32) (acc : Vec Ideal S2048x1024 .f32)
    (hx : ∀ p s, x (ix2 p s) = m ((c : Thread nD τ).loc main_arg0) (ix3 0 p s))
    (hwg0 : ∀ (s : Fin 1024) (f : Fin 512), wg0 (ix3 0 s f) = m ((c : Thread nD τ).loc main_arg3) (ix3 e s ⟨f.val * 2, by omega⟩))
    (hwu0 : ∀ (s : Fin 1024) (f : Fin 512), wu0 (ix3 0 s f) = m ((c : Thread nD τ).loc main_arg3) (ix3 e s ⟨f.val * 2 + 1, by omega⟩))
    (hwg1 : ∀ (s : Fin 1024) (f : Fin 512), wg1 (ix3 0 s f) = m ((c : Thread nD τ).loc main_arg3) (ix3 e s ⟨(512 + f.val) * 2, by omega⟩))
    (hwu1 : ∀ (s : Fin 1024) (f : Fin 512), wu1 (ix3 0 s f) = m ((c : Thread nD τ).loc main_arg3) (ix3 e s ⟨(512 + f.val) * 2 + 1, by omega⟩))
    (hbg0 : ∀ f : Fin 512, bg0 (ix3 0 0 f) = m ((c : Thread nD τ).loc main_arg4) (ix2 e ⟨f.val * 2, by omega⟩))
    (hbu0 : ∀ f : Fin 512, bu0 (ix3 0 0 f) = m ((c : Thread nD τ).loc main_arg4) (ix2 e ⟨f.val * 2 + 1, by omega⟩))
    (hbg1 : ∀ f : Fin 512, bg1 (ix3 0 0 f) = m ((c : Thread nD τ).loc main_arg4) (ix2 e ⟨(512 + f.val) * 2, by omega⟩))
    (hbu1 : ∀ f : Fin 512, bu1 (ix3 0 0 f) = m ((c : Thread nD τ).loc main_arg4) (ix2 e ⟨(512 + f.val) * 2 + 1, by omega⟩))
    (hd0 : ∀ (f : Fin 512) (h : Fin 1024), d0 (ix3 0 f h) = m ((c : Thread nD τ).loc main_arg5) (ix3 e ⟨f.val, by omega⟩ h))
    (hd1 : ∀ (f : Fin 512) (h : Fin 1024), d1 (ix3 0 f h) = m ((c : Thread nD τ).loc main_arg5) (ix3 e ⟨512 + f.val, by omega⟩ h))
    (hr : ∀ p, r (ix3 0 0 p) = m ((c : Thread nD τ).loc main_arg2) (ix2 p e))
    (hk : ∀ h, k (ix3 0 0 h) = m ((c : Thread nD τ).loc main_arg6) (ix2 e h))
    (p : Fin 2048) (h : Fin 1024) (h0 : 0 ≤ weightOf m c p e) (ht : weightOf m c p e ≠ ⊤) :
    k0_pay2 (F := Ideal) (k0_pay5 r)
        (k0_pay1 (k0_pay5 r) (k0_pay9 x wu1 bu1) (k0_pay10 x wg1 bg1) (FloatOps.ofBits FTy.f32 1088421888#32) k0_pay11 d1
          (k0_pay8 (k0_pay5 r) (k0_pay6 x wu0 bu0) (k0_pay7 x wg0 bg0) d0 acc)) k (ix2 p h)
      = (acc (ix2 p h) : EReal) + answerOf m c e p h * weightOf m c p e := by
  rw [pass_at]
  simp only [column, hx, hwg0, hwu0, hwg1, hwu1, hbg0, hbu0, hbg1, hbu1, hd0, hd1, hr, hk]
  exact weighted_halves _
    (feature (fun p s => m ((c : Thread nD τ).loc main_arg0) (ix3 0 p s)) (fun e s j => m ((c : Thread nD τ).loc main_arg3) (ix3 e s j))
      (fun e j => m ((c : Thread nD τ).loc main_arg4) (ix2 e j)) e p)
    (fun f => m ((c : Thread nD τ).loc main_arg5) (ix3 e f h)) _ h0 ht

/-! ## What a point loads -/

section
variable (t : Fin cfg0.N)

/-- The first 512 even columns of point `t`'s block of the gate-and-up matrix. -/
abbrev gate0 : Vec Ideal S1x1024x512 .bf16 :=
  View.ld (Val := Elt Ideal) (iblk m c 1 t) (Rect.unit ![0, 0, 0] ![1, 1024, 512] inb_S1x1024x2048_S1x1024x512_0_0_0)
/-- Its last 512 even columns. -/
abbrev gate1 : Vec Ideal S1x1024x512 .bf16 :=
  View.ld (Val := Elt Ideal) (iblk m c 1 t) (Rect.unit ![0, 0, 512] ![1, 1024, 512] inb_S1x1024x2048_S1x1024x512_0_0_512)
/-- Its first 512 odd columns. -/
abbrev up0 : Vec Ideal S1x1024x512 .bf16 :=
  View.ld (Val := Elt Ideal) (iblk m c 1 t) (Rect.unit ![0, 0, 1024] ![1, 1024, 512] inb_S1x1024x2048_S1x1024x512_0_0_1024)
/-- Its last 512 odd columns. -/
abbrev up1 : Vec Ideal S1x1024x512 .bf16 :=
  View.ld (Val := Elt Ideal) (iblk m c 1 t) (Rect.unit ![0, 0, 1536] ![1, 1024, 512] inb_S1x1024x2048_S1x1024x512_0_0_1536)
/-- The biases of `gate0`. -/
abbrev gateBias0 : Vec Ideal S1x1x512 .f32 :=
  View.ld (Val := Elt Ideal) (iblk m c 4 t) (Rect.unit ![0, 0, 0] ![1, 1, 512] inb_S1x1x2048_S1x1x512_0_0_0)
/-- The biases of `gate1`. -/
abbrev gateBias1 : Vec Ideal S1x1x512 .f32 :=
  View.ld (Val := Elt Ideal) (iblk m c 4 t) (Rect.unit ![0, 0, 512] ![1, 1, 512] inb_S1x1x2048_S1x1x512_0_0_512)
/-- The biases of `up0`. -/
abbrev upBias0 : Vec Ideal S1x1x512 .f32 :=
  View.ld (Val := Elt Ideal) (iblk m c 4 t) (Rect.unit ![0, 0, 1024] ![1, 1, 512] inb_S1x1x2048_S1x1x512_0_0_1024)
/-- The biases of `up1`. -/
abbrev upBias1 : Vec Ideal S1x1x512 .f32 :=
  View.ld (Val := Elt Ideal) (iblk m c 4 t) (Rect.unit ![0, 0, 1536] ![1, 1, 512] inb_S1x1x2048_S1x1x512_0_0_1536)
/-- The first 512 rows of its block of the down matrix. -/
abbrev down0 : Vec Ideal S1x512x1024 .f32 :=
  View.ld (Val := Elt Ideal) (iblk m c 2 t) (Rect.unit ![0, 0, 0] ![1, 512, 1024] inb_S1x1024x1024_S1x512x1024_0_0_0)
/-- The last 512 rows. -/
abbrev down1 : Vec Ideal S1x512x1024 .f32 :=
  View.ld (Val := Elt Ideal) (iblk m c 2 t) (Rect.unit ![0, 512, 0] ![1, 512, 1024] inb_S1x1024x1024_S1x512x1024_0_512_0)

/-- Point `t`'s pass, whatever copy of the tokens `x` it reads, adds its expert's weighted answer to the total. -/
theorem pass_point (x : Vec Ideal S2048x1024 .bf16) (acc : Vec Ideal S2048x1024 .f32)
    (hx : ∀ p s, x (ix2 p s) = m ((c : Thread nD τ).loc main_arg0) (ix3 0 p s)) (p : Fin 2048) (h : Fin 1024)
    (h0 : 0 ≤ weightOf m c p (expertOf t)) (ht : weightOf m c p (expertOf t) ≠ ⊤) :
    k0_pay2 (F := Ideal) (k0_pay5 (iblk m c 3 t))
        (k0_pay1 (k0_pay5 (iblk m c 3 t)) (k0_pay9 x (up1 m c t) (upBias1 m c t)) (k0_pay10 x (gate1 m c t) (gateBias1 m c t))
          (FloatOps.ofBits FTy.f32 1088421888#32) k0_pay11 (down1 m c t)
          (k0_pay8 (k0_pay5 (iblk m c 3 t)) (k0_pay6 x (up0 m c t) (upBias0 m c t)) (k0_pay7 x (gate0 m c t) (gateBias0 m c t))
            (down0 m c t) acc)) (iblk m c 5 t) (ix2 p h)
      = (acc (ix2 p h) : EReal) + answerOf m c (expertOf t) p h * weightOf m c p (expertOf t) := by
  refine pass_answer m c (expertOf t) _ _ _ _ _ _ _ _ _ _ _ _ _ _ hx ?_ ?_ ?_ ?_ ?_ ?_ ?_ ?_ ?_ ?_ ?_ ?_ p h h0 ht
  · intro s f; pointwise [gate0]; exact gate_block m c t s ⟨f.val, by omega⟩
  · intro s f; pointwise [up0]; exact up_block m c t s ⟨f.val, by omega⟩ _ rfl
  · intro s f; pointwise [gate1]; exact gate_block m c t s ⟨512 + f.val, by omega⟩
  · intro s f; pointwise [up1]; exact up_block m c t s ⟨512 + f.val, by omega⟩ _ (Fin.ext (by dsimp only; omega))
  · intro f; pointwise [gateBias0]; exact gateBias_block m c t ⟨f.val, by omega⟩
  · intro f; pointwise [upBias0]; exact upBias_block m c t ⟨f.val, by omega⟩ _ rfl
  · intro f; pointwise [gateBias1]; exact gateBias_block m c t ⟨512 + f.val, by omega⟩
  · intro f; pointwise [upBias1]; exact upBias_block m c t ⟨512 + f.val, by omega⟩ _ (Fin.ext (by dsimp only; omega))
  · intro f h; pointwise [down0]; exact down_block m c t ⟨f.val, by omega⟩ h
  · intro f h; pointwise [down1]; exact down_block m c t ⟨512 + f.val, by omega⟩ h
  · intro p; exact weights_block m c t p
  · intro h; exact downBias_block m c t h

end

/-! ## The points -/

/-- The first point stores the tokens' copy. -/
theorem copy_first (t : Fin cfg0.N) (hz : t.val % 8 = 0) (p : Fin 2048) (s : Fin 1024) :
    (outsAt0 m c t.val t.isLt).2 (ix2 p s) = m ((c : Thread nD τ).loc main_arg0) (ix3 0 p s) := by
  rw [outsAt0_A m c t hz]
  frame_out
  rw [copy_eq]
  exact tokens_block m c t p s

/-- A later point leaves the copy as it found it. -/
theorem copy_kept (t : Fin cfg0.N) (hz : ¬t.val % 8 = 0) :
    (outsAt0 m c t.val t.isLt).2 = (outsAt0 m c (t.val - 1) (by omega)).2 := by
  rw [outsAt0_B m c t hz]
  rfl

/-- The kept copy holds the tokens after every point. -/
theorem copy_holds (n : ℕ) (hn : n < cfg0.N) (p : Fin 2048) (s : Fin 1024) :
    (outsAt0 m c n hn).2 (ix2 p s) = m ((c : Thread nD τ).loc main_arg0) (ix3 0 p s) := by
  induction n with
  | zero => exact copy_first m c ⟨0, hn⟩ rfl p s
  | succ n ih =>
    have h8 : cfg0.N = 8 := N_0
    have e := congrFun (copy_kept m c ⟨n + 1, hn⟩ (by dsimp only; omega)) (ix2 p s)
    exact e.trans (ih _)

/-- The first point leaves the first expert's weighted answer. -/
theorem first_point (t : Fin cfg0.N) (hz : t.val % 8 = 0) (p : Fin 2048) (h : Fin 1024)
    (h0 : 0 ≤ weightOf m c p (expertOf t)) (ht : weightOf m c p (expertOf t) ≠ ⊤) :
    (outsAt0 m c t.val t.isLt).1 (ix2 p h) = 0 + answerOf m c (expertOf t) p h * weightOf m c p (expertOf t) := by
  rw [outsAt0_A m c t hz]
  frame_open
  simp (disch := decide) only [↓ View.readCov_skip, ↓ View.readCov_cons_toLoadRect, ↓ View.readCov_fill]
  frame_out
  refine (pass_point m c t _ _ (fun p s => ?_) p h h0 ht).trans ?_
  · rw [copy_eq]
    exact tokens_block m c t p s
  · rw [zeros_at]

/-- A later point adds its expert's weighted answer to what the point before left. -/
theorem later_point (t : Fin cfg0.N) (hz : ¬t.val % 8 = 0) (p : Fin 2048) (h : Fin 1024)
    (h0 : 0 ≤ weightOf m c p (expertOf t)) (ht : weightOf m c p (expertOf t) ≠ ⊤) :
    (outsAt0 m c t.val t.isLt).1 (ix2 p h)
      = (outsAt0 m c (t.val - 1) (by omega)).1 (ix2 p h) + answerOf m c (expertOf t) p h * weightOf m c p (expertOf t) := by
  rw [outsAt0_B m c t hz]
  frame_out
  simp only [read_unread_whole]
  exact pass_point m c t _ _ (fun p s => copy_holds m c _ _ p s) p h h0 ht

end Cert.KernelIdeal.Points
-- ==== Proof.KernelResult.lean ====
/-
  The kernel program's run: it ends with its result holding the layer's formula over its arguments, where every routing
  weight is at least 0 and not +infinity.
-/
module

public import proofs.«01_k».proof.Proof.Points

@[expose] public section

set_option maxRecDepth 16384

noncomputable section

namespace Cert.KernelIdeal.Points

open Cert.KernelIdeal Cert.KernelIdeal.Gen Idealize.ShloMosaic Idealize.ShloMosaic.TcCoe Idealize.SL.Sem
open Idealize.ShloMosaic.Pipeline (Dat)
open Cert.Moe

variable (m : (ℓ : Loc nD τ sig) → Buf (Elt Ideal) ℓ)

/-- The layer's formula over the arguments device `c` was started with. -/
abbrev layerAt (c : Dev nD) : Fin 2048 → Fin 1024 → EReal :=
  layer (fun p s => m ((c : Thread nD τ).loc main_arg0) (ix3 0 p s)) (fun e s j => m ((c : Thread nD τ).loc main_arg3) (ix3 e s j))
    (fun e j => m ((c : Thread nD τ).loc main_arg4) (ix2 e j)) (fun e f h => m ((c : Thread nD τ).loc main_arg5) (ix3 e f h))
    (fun e h => m ((c : Thread nD τ).loc main_arg6) (ix2 e h)) (fun p e => m ((c : Thread nD τ).loc main_arg2) (ix2 p e))

/-- What is asked of the routing weights. -/
def WeightsFine : Prop := ∀ (c : Dev nD) (p : Fin 2048) (e : Fin 8), 0 ≤ weightOf m c p e ∧ weightOf m c p e ≠ ⊤

variable {m}

/-- After the last point the accumulated output is the layer's. -/
theorem last_point (hw : WeightsFine m) (c : Dev nD) (p : Fin 2048) (h : Fin 1024) :
    (outsAt0 m c t0_7.val t0_7.isLt).1 (ix2 p h) = layerAt m c p h := by
  have hsum := Pipeline.eq_sum_fin_of_reset_step_apply_last (N := cfg0.N) (ι := Fin 2048 × Fin 1024) (M := EReal)
    (fun n hn i => (outsAt0 m c n hn).1 (ix2 i.1 i.2)) 8 (fun _ => 0)
    (fun t i => answerOf m c (expertOf t) i.1 i.2 * weightOf m c i.1 (expertOf t))
    (fun t hz i => first_point m c t hz i.1 i.2 (hw c _ _).1 (hw c _ _).2)
    (fun t hz i => later_point m c t hz i.1 i.2 (hw c _ _).1 (hw c _ _).2)
    (le_of_eq N_0) t0_7 N_0.symm (p, h)
  refine hsum.trans ?_
  rw [zero_add]
  exact Fintype.sum_equiv (finCongr N_0) _ (fun e => answerOf m c e p h * weightOf m c p e) fun _ => rfl

/-- The output array after the run. -/
theorem output_array (hw : WeightsFine m) (c : Dev nD) :
    (dats m 0 c).arrAt 6 cfg0.N = fun i : S2048x1024.Idx => layerAt m c (i 0) (i 1) := by
  refine Dat.arrAt_eq_of_after_last (dats m 0 c) 6 t0_7 (by decide +kernel) _ fun j => ?_
  blk_simp
  have hj : j = ix2 (j 0) (j 1) := by blk_ext
  rw [after0_6]
  exact (congrArg (outsAt0 m c t0_7.val t0_7.isLt).1 hj).trans (last_point hw c (j 0) (j 1))

/-- The host's last step only adds the leading axis. -/
theorem tail_at (U : Valuation τ sig (Elt Ideal)) (p : Fin 2048) (h : Fin 1024) :
    StableHlo.after hostOps1 U (Proc.devRef .tc main_v0) (ix3 0 p h) = U (Proc.devRef .tc main_call0_v19) (ix2 p h) := by
  entry_read
  pointwise

/-- The result buffer after the run. -/
theorem result_at (hw : WeightsFine m) (c : Dev nD) (p : Fin 2048) (h : Fin 1024) :
    Pipeline.afterTail₀ cfgs (dats m) 0 (V0 m) [hostOps1] c main_v0 (ix3 0 p h) = layerAt m c p h := by
  refine (tail_at _ p h).trans ?_
  refine (congrFun (Pipeline.withArrays_arr spec0 (by decide) c (V0 m c) (fun w => (dats m 0 c).arrAt w cfg0.N) 6) (ix2 p h)).trans ?_
  rw [output_array hw c]
  rfl

/-- The kernel program ends with the layer's formula in its result, its arguments as they were. -/
theorem run (hw : WeightsFine m) (g : Dev nD → PrngReg) :
    θ_run defs (onTc (τ := τ) (main (F := Ideal))) ⟨m, fun _ => 0, g⟩ fun r => ∀ c : Dev nD,
      (∀ (p : Fin 2048) (h : Fin 1024), r.2.mem ((c : Thread nD τ).loc main_v0) (ix3 0 p h) = layerAt m c p h)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine θ_run_mono (θ_run_and (run_main m g) (unchanged m g)) fun r hr c => ⟨fun p h => ?_, hr.2 c⟩
  refine (congrFun ((hr.1 c).2 main_v0 (Pipeline.mem_restRefs_of main_v0 (by decide) (by decide))) (ix3 0 p h)).trans ?_
  exact result_at hw c p h

end Cert.KernelIdeal.Points
-- ==== Proof.ReferenceResult.lean ====
/-
  The reference program's run: it ends with its result holding the layer's formula over its arguments.
-/
module

public import proofs.«01_k».proof.Proof.Gen.ReferenceIdeal.Run
public import proofs.«01_k».proof.Proof.Formula

@[expose] public section

set_option maxRecDepth 16384

noncomputable section

namespace Cert.ReferenceIdeal.Result

open Cert.ReferenceIdeal Cert.ReferenceIdeal.Gen Idealize.ShloMosaic Idealize.ShloMosaic.TcCoe Idealize.SL.Sem
open Cert.Moe

/-! ## The program in four stages, each read at one position -/

/-- The pre-activations of every expert, token and column. -/
def preActs (x : FVec Ideal S1x2048x1024 .f32) (w : FVec Ideal S8x1024x2048 .f32) (b : FVec Ideal S8x2048 .f32) :
    FVec Ideal S8x2048x2048 .f32 :=
  addf (Host.dotGeneral dot_S8x2048x1024_S8x1024x2048_S8x2048x2048_2_1_1_2_0_0 none
      (broadcastInDim S8x2048x1024 ![0, 1, 2] bcast_S1x2048x1024_S8x2048x1024_0_1_2
        (broadcastInDim S1x2048x1024 ![1, 2] bcast_S2048x1024_S1x2048x1024_1_2
          (shapeCast S2048x1024 x shapeCasts_S1x2048x1024_S2048x1024))) w)
    (broadcastInDim S8x2048x2048 ![0, 1, 2] bcast_S8x1x2048_S8x2048x2048_0_1_2
      (broadcastInDim S8x1x2048 ![0, 2] bcast_S8x2048_S8x1x2048_0_2 b))

/-- A pre-activation, by its formula. -/
theorem preActs_at (x : FVec Ideal S1x2048x1024 .f32) (w : FVec Ideal S8x1024x2048 .f32) (b : FVec Ideal S8x2048 .f32)
    (e : Fin 8) (p j : Fin 2048) :
    preActs x w b (ix3 e p j) = preAct (fun p s => x (ix3 0 p s)) (fun e s j => w (ix3 e s j)) (fun e j => b (ix2 e j)) e p j := by
  pointwise [preActs, preAct]

/-- The features made of the pre-activations `y`. -/
def features (y : FVec Ideal S8x2048x2048 .f32) : FVec Ideal S8x2048x1024 .f32 :=
  mulf
    (addf (minimumf (broadcastInDim S8x2048x1024 ![] bcast_S_S8x2048x1024 (id (constant S_ .f32 0x40E00000#32)))
        (maximumf (broadcastInDim S8x2048x1024 ![] bcast_S_S8x2048x1024 (id (constant S_ .f32 0xC0E00000#32)))
          (Host.slice S8x2048x1024 ![0, 0, 1] ![1, 1, 2] y slicesBy_S8x2048x2048_S8x2048x1024_0s1_0s1_1s2)))
      (broadcastInDim S8x2048x1024 ![] bcast_S_S8x2048x1024 (constant S_ .f32 0x3F800000#32)))
    (mulf (minimumf (Host.slice S8x2048x1024 ![0, 0, 0] ![1, 1, 2] y slicesBy_S8x2048x2048_S8x2048x1024_0s1_0s1_0s2)
        (broadcastInDim S8x2048x1024 ![] bcast_S_S8x2048x1024 (constant S_ .f32 0x40E00000#32)))
      (Host.divf (broadcastInDim S8x2048x1024 ![] bcast_S_S8x2048x1024 (constant S_ .f32 0x3F800000#32))
        (addf (broadcastInDim S8x2048x1024 ![] bcast_S_S8x2048x1024 (constant S_ .f32 0x3F800000#32))
          (Host.exp (Host.negf
            (mulf (minimumf (Host.slice S8x2048x1024 ![0, 0, 0] ![1, 1, 2] y slicesBy_S8x2048x2048_S8x2048x1024_0s1_0s1_0s2)
                (broadcastInDim S8x2048x1024 ![] bcast_S_S8x2048x1024 (constant S_ .f32 0x40E00000#32)))
              (broadcastInDim S8x2048x1024 ![] bcast_S_S8x2048x1024 (constant S_ .f32 0x3FD9DB23#32))))))))

/-- A feature, of the pre-activations at its two columns. -/
theorem features_at (y : FVec Ideal S8x2048x2048 .f32) (e : Fin 8) (p : Fin 2048) (f : Fin 1024) :
    features y (ix3 e p f) = shifted (y (ix3 e p ⟨f.val * 2 + 1, by omega⟩)) * gated (y (ix3 e p ⟨f.val * 2, by omega⟩)) := by
  have hu : (⟨1 + 2 * f.val, by omega⟩ : Fin 2048) = ⟨f.val * 2 + 1, by omega⟩ := Fin.ext (by dsimp only; omega)
  have hg : (⟨2 * f.val, by omega⟩ : Fin 2048) = ⟨f.val * 2, by omega⟩ := Fin.ext (by dsimp only; omega)
  pointwise [features]
  rw [hu, hg]
  rfl

/-- The experts' answers from the features `a`. -/
def answers (a : FVec Ideal S8x2048x1024 .f32) (d : FVec Ideal S8x1024x1024 .f32) (k : FVec Ideal S8x1024 .f32) :
    FVec Ideal S8x2048x1024 .f32 :=
  addf (Host.dotGeneral dot_S8x2048x1024_S8x1024x1024_S8x2048x1024_2_1_1_2_0_0 none a d)
    (broadcastInDim S8x2048x1024 ![0, 1, 2] bcast_S8x1x1024_S8x2048x1024_0_1_2
      (broadcastInDim S8x1x1024 ![0, 2] bcast_S8x1024_S8x1x1024_0_2 k))

/-- An answer, as a sum over the features. -/
theorem answers_at (a : FVec Ideal S8x2048x1024 .f32) (d : FVec Ideal S8x1024x1024 .f32) (k : FVec Ideal S8x1024 .f32)
    (e : Fin 8) (p : Fin 2048) (h : Fin 1024) :
    answers a d k (ix3 e p h) = ∑ f : Fin 1024, a (ix3 e p f) * d (ix3 e f h) + k (ix2 e h) := by
  pointwise [answers]

/-- The answers `q` weighted by `r` and added up over the experts. -/
def total (q : FVec Ideal S8x2048x1024 .f32) (r : FVec Ideal S2048x8 .f32) : FVec Ideal S1x2048x1024 .f32 :=
  Host.reduceAdd (mulf (shapeCast S8x1x2048x1024 q shapeCasts_S8x2048x1024_S8x1x2048x1024)
    (broadcastInDim S8x1x2048x1024 ![0, 1, 2, 3] bcast_S8x1x2048x1_S8x1x2048x1024_0_1_2_3
      (broadcastInDim S8x1x2048x1 ![0, 1, 2] bcast_S8x1x2048_S8x1x2048x1_0_1_2
        (shapeCast S8x1x2048 (transpose S8x2048 [1, 0] r transposes_S2048x8_S8x2048_1_0) shapeCasts_S8x2048_S8x1x2048))))
    (constant S_ .f32 0x00000000#32) reducesTo_S8x1x2048x1024_S1x2048x1024_d0 h_S_

/-- The output, as a sum over the experts. -/
theorem total_at (q : FVec Ideal S8x2048x1024 .f32) (r : FVec Ideal S2048x8 .f32) (p : Fin 2048) (h : Fin 1024) :
    total q r (ix3 0 p h) = ∑ e : Fin 8, q (ix3 e p h) * r (ix2 p e) := by
  pointwise [total]

/-! ## The run -/

variable (m : (ℓ : Loc nD τ sig) → Buf (Elt Ideal) ℓ)

/-- The layer's formula over the arguments device `c` was started with. -/
abbrev layerAt (c : Dev nD) : Fin 2048 → Fin 1024 → EReal :=
  layer (fun p s => m ((c : Thread nD τ).loc main_arg0) (ix3 0 p s)) (fun e s j => m ((c : Thread nD τ).loc main_arg3) (ix3 e s j))
    (fun e j => m ((c : Thread nD τ).loc main_arg4) (ix2 e j)) (fun e f h => m ((c : Thread nD τ).loc main_arg5) (ix3 e f h))
    (fun e h => m ((c : Thread nD τ).loc main_arg6) (ix2 e h)) (fun p e => m ((c : Thread nD τ).loc main_arg2) (ix2 p e))

/-- The reference ends with the layer's formula in its result, its arguments as they were. -/
theorem run (g : Dev nD → PrngReg) :
    θ_run defs (onTc (τ := τ) (main (F := Ideal))) ⟨m, fun _ => 0, g⟩ fun r => ∀ c : Dev nD,
      (∀ (p : Fin 2048) (h : Fin 1024), r.2.mem ((c : Thread nD τ).loc main_v34) (ix3 0 p h) = layerAt m c p h)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine θ_run_mono (Value.run m g) fun r hr c => ⟨fun p h => ?_, (hr c).2⟩
  refine (congrFun (hr c).1 (ix3 0 p h)).trans ?_
  refine (total_at (answers (features (preActs (m ((c : Thread nD τ).loc main_arg0)) (m ((c : Thread nD τ).loc main_arg3))
    (m ((c : Thread nD τ).loc main_arg4)))) (m ((c : Thread nD τ).loc main_arg5)) (m ((c : Thread nD τ).loc main_arg6)))
    (m ((c : Thread nD τ).loc main_arg2)) p h).trans ?_
  simp only [answers_at, features_at, preActs_at]
  rfl

end Cert.ReferenceIdeal.Result
-- ==== Proof.Precondition.lean ====
/-
  What the precondition `weights_nonnegative_and_finite` says of the routing weights, entry by entry: each is at least 0
  and is not +infinity.
-/
module

public import proofs.«01_k».proof.Defs
public import proofs.«01_k».proof.Proof.Gen.Pre_weights_nonnegative_and_finite
public import proofs.«01_k».proof.Proof.KernelResult

@[expose] public section

noncomputable section

namespace Cert.KernelIdeal.Points

open Cert.KernelIdeal Cert.KernelIdeal.Gen Idealize.ShloMosaic Idealize.ShloMosaic.TcCoe

/-- The word the weights are compared from below with is zero. -/
theorem zero_word : Ideal.ofBits .f32 0x00000000#32 = (0 : EReal) := by
  simp [Ideal.ofBits, Ideal.ieee]

/-- The word the weights are compared from above with is +infinity. -/
theorem infinity_word : Ideal.ofBits .f32 0x7F800000#32 = (⊤ : EReal) := by
  simp [Ideal.ofBits, Ideal.ieee]

/-- A "greater or equal" that answers true. -/
theorem le_of_compare {x y : EReal} (h : Ideal.cmp .oge x y = 1#1) : y ≤ x := by
  by_contra hn
  simp [Ideal.cmp, hn] at h

/-- A "less than" that answers true. -/
theorem lt_of_compare {x y : EReal} (h : Ideal.cmp .olt x y = 1#1) : x < y := by
  by_contra hn
  simp [Ideal.cmp, hn] at h

/-- The precondition gives what the kernel's run asks of the weights. -/
theorem weightsFine_of_pre {m : (ℓ : Loc nD τ sig) → Buf (Elt Ideal) ℓ}
    (h : Cert.Pre_KernelIdeal_weights_nonnegative_and_finite m) : WeightsFine m := by
  intro c p e
  have hlow : Ideal.cmp .oge (weightOf m c p e) (Ideal.ofBits .f32 0x00000000#32) = 1#1 := congrFun (h c).1 (ix2 p e)
  have hhigh : Ideal.cmp .olt (weightOf m c p e) (Ideal.ofBits .f32 0x7F800000#32) = 1#1 := congrFun (h c).2 (ix2 p e)
  rw [zero_word] at hlow
  rw [infinity_word] at hhigh
  exact ⟨le_of_compare hlow, (lt_of_compare hhigh).ne⟩

end Cert.KernelIdeal.Points

end
-- ==== Proof.lean ====
/-
  The certificate of the mixture-of-experts kernel: `claim` proves `Cert.Claim` (Defs.lean).

  * The frames of the kernel, at words and at extended reals, are the generated ones.
  * The reference is a straight line of whole-array operations and declares no semaphore, so its frame is its run read at
    its arguments.
  * The idealized kernel is the kernel's own text read at the extended reals: no operation is rewritten.
  * The value claim: the kernel's run (Proof/KernelResult.lean) and the reference's (Proof/ReferenceResult.lean) both end
    with the one formula of Proof/Formula.lean, over arguments that agree. The precondition (Proof/Precondition.lean) is
    used on the kernel's side, where a weight multiplies two halves of an expert's answer apart.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_weights_nonnegative_and_finite
public import proofs.«01_k».proof.Proof.KernelResult
public import proofs.«01_k».proof.Proof.ReferenceResult
public import proofs.«01_k».proof.Proof.Precondition
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs, leaves its arguments as they were and every counter at zero. -/
theorem reference_frame : Cert.quiescent_ReferenceIdeal := fun m g _ =>
  θ_run_mono (Cert.ReferenceIdeal.Value.run (F := Ideal) m g) fun r h =>
    ⟨fun c => (h c).2, sem_eq_zero_of_no_sems (by decide) r.2⟩

/-- From arguments that agree, the two programs' formulas are one. -/
theorem layers_agree {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD}
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    Cert.ReferenceIdeal.Result.layerAt m' c = Cert.KernelIdeal.Points.layerAt m c := by
  dsimp only [Cert.ReferenceIdeal.Result.layerAt, Cert.KernelIdeal.Points.layerAt]
  rw [h0, h2, h3, h4, h5, h6]

/-- A whole result array from its entries: its leading dimension has one index. -/
theorem array_of_entries {f : (⟨3, ![1, 2048, 1024]⟩ : Shape).Idx → EReal} {v : Fin 2048 → Fin 1024 → EReal}
    (h : ∀ (p : Fin 2048) (q : Fin 1024), f (ix3 0 p q) = v p q) : f = fun i => v (i 1) (i 2) := by
  funext i
  have hi : i = ix3 0 (i 1) (i 2) := (eq_ix3 i).trans (congrArg (ix3 · (i 1) (i 2)) (Subsingleton.elim (α := Fin 1) _ _))
  exact (congrArg f hi).trans (h (i 1) (i 2))

/-- Where every routing weight is at least 0 and not +infinity, the kernel computes the reference's layer. -/
theorem layer_computed : Cert.algebraic_KernelIdeal_ReferenceIdeal_pre_weights_nonnegative_and_finite := by
  intro m g m' g' hpre hargs
  refine ⟨fun c i => Cert.KernelIdeal.Points.layerAt m c (i 1) (i 2), ?_, ?_⟩
  · exact θ_run_mono (Cert.KernelIdeal.Points.run (Cert.KernelIdeal.Points.weightsFine_of_pre hpre) g) fun r h c =>
      ⟨array_of_entries (h c).1, (h c).2⟩
  · refine θ_run_mono (Cert.ReferenceIdeal.Result.run m' g') fun r h c => ⟨array_of_entries fun p q => ?_, (h c).2⟩
    obtain ⟨h0, -, h2, h3, h4, h5, h6⟩ := hargs c
    exact ((h c).1 p q).trans (congrFun (congrFun (layers_agree h0 h2 h3 h4 h5 h6) p) q)

theorem claim : Cert.Claim :=
  ⟨Cert.Kernel.Gen.facts, Cert.KernelIdeal.Gen.facts, Cert.ReferenceIdeal.Gen.facts,
    Cert.Pre_weights_nonnegative_and_finite.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    layer_computed⟩

end Cert.Proof

end
